-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_fresh_rows [hPre_fresh_rows : Cert.Pre_fresh_rows.Facts] (m : (ℓ : Loc Cert.KernelIdeal.nD Cert.KernelIdeal.τ Cert.KernelIdeal.sig) → Buf (Elt Ideal) ℓ) : Prop :=
  ∀ c : Dev Cert.KernelIdeal.nD,
    (Cert.Pre_fresh_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_fresh_rows [hPre_fresh_rows : Cert.Pre_fresh_rows.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_fresh_rows.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_fresh_rows [hKernelIdeal : Cert.KernelIdeal.Facts] [hPre_fresh_rows : Cert.Pre_fresh_rows.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_fresh_rows m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_fresh_rows [hReferenceIdeal : Cert.ReferenceIdeal.Facts] [hPre_fresh_rows : Cert.Pre_fresh_rows.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_fresh_rows m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_fresh_rows [hKernelIdeal : Cert.KernelIdeal.Facts] [hReferenceIdeal : Cert.ReferenceIdeal.Facts] [hPre_fresh_rows : Cert.Pre_fresh_rows.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_fresh_rows m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_fresh_rows : Cert.Pre_fresh_rows.Facts),
    quiescent_Kernel (hKernel := hKernel)
    ∧ quiescent_KernelIdeal (hKernelIdeal := hKernelIdeal)
    ∧ quiescent_KernelIdeal_pre_fresh_rows (hKernelIdeal := hKernelIdeal) (hPre_fresh_rows := hPre_fresh_rows)
    ∧ quiescent_ReferenceIdeal (hReferenceIdeal := hReferenceIdeal)
    ∧ quiescent_ReferenceIdeal_pre_fresh_rows (hReferenceIdeal := hReferenceIdeal) (hPre_fresh_rows := hPre_fresh_rows)
    ∧ preserves_Kernel_KernelIdeal
    ∧ algebraic_KernelIdeal_ReferenceIdeal_pre_fresh_rows (hKernelIdeal := hKernelIdeal) (hReferenceIdeal := hReferenceIdeal) (hPre_fresh_rows := hPre_fresh_rows)
-- ==== Pre_fresh_rows.lean ====
abbrev S4096 : Shape := ⟨1, ![4096]⟩
abbrev S4096x1000 : Shape := ⟨2, ![4096, 1000]⟩
abbrev S100000x1000 : Shape := ⟨2, ![100000, 1000]⟩
abbrev S_ : Shape := ⟨0, ![]⟩
abbrev S4096x1 : Shape := ⟨2, ![4096, 1]⟩
abbrev S1 : Shape := ⟨1, ![1]⟩
abbrev S1x1 : Shape := ⟨2, ![1, 1]⟩

class Facts : Prop where
  reducesTo_S4096x1000_S4096_d1 : S4096x1000.ReducesTo [1] S4096
  h_S_ : 0 < S_.numel
  bcast_S_S4096 : S_.BroadcastsInDim S4096 (![] : Fin 0 → Fin S4096.rank)
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S1_S1x1_1 : S1.BroadcastsInDim S1x1 (![1] : Fin 1 → Fin S1x1.rank)
  bcast_S1x1_S4096x1_0_1 : S1x1.BroadcastsInDim S4096x1 (![0, 1] : Fin 2 → Fin S4096x1.rank)
  reducesTo_S4096x1_S4096_d1 : S4096x1.ReducesTo [1] S4096
  bcast_S4096_S4096x1000_0 : S4096.BroadcastsInDim S4096x1000 (![0] : Fin 1 → Fin S4096x1000.rank)
  bcast_S_S4096x1000 : S_.BroadcastsInDim S4096x1000 (![] : Fin 0 → Fin S4096x1000.rank)
  reducesTo_S4096x1000_S_d0_1 : S4096x1000.ReducesTo [0, 1] S_
  reducesTo_S4096_S_d0 : S4096.ReducesTo [0] S_
  gather_S100000x1000_S4096x1_S4096x1000_1_0_n_n_0_1_11000_wf : GatherDims.WF S100000x1000 S4096x1 S4096x1000 [1] [0] [] [0] [] 1 ![1, 1000]

variable [Facts]

def gather_S100000x1000_S4096x1_S4096x1000_1_0_n_n_0_1_11000 : GatherDims S100000x1000 S4096x1 S4096x1000 where
  offsetDims := [1]
  collapsedSliceDims := [0]
  operandBatchingDims := []
  startIndicesBatchingDims := []
  startIndexMap := [0]
  indexVectorDim := 1
  sliceSizes := ![1, 1000]
  wf := gather_S100000x1000_S4096x1_S4096x1000_1_0_n_n_0_1_11000_wf
def fn_where {F : FTy → Type} [FloatOps F] (arg0 : IVec S4096 1) (arg1 : IVec S4096 32) (arg2 : IVec S4096 32) : IVec S4096 32 :=
  let v0 : IVec S4096 32 := select arg0 arg1 arg2
  v0

def fn_take {F : FTy → Type} [FloatOps F] (arg0 : FVec F S100000x1000 .f32) (arg1 : IVec S4096 32) : FVec F S4096x1000 .f32 :=
  let c : IVec S_ 32 := constantI S_ 32 0#32
  let v0 : IVec S4096 32 := broadcastInDim S4096 ![] bcast_S_S4096 c
  let v1 : IVec S4096 1 := cmpi .slt arg1 v0
  let c_0 : IVec S_ 32 := constantI S_ 32 100000#32
  let v2 : IVec S4096 32 := broadcastInDim S4096 ![] bcast_S_S4096 c_0
  let v3 : IVec S4096 32 := addi arg1 v2
  let v4 : IVec S4096 32 := fn_where (F := F) v1 v3 arg1
  let v5 : IVec S4096x1 32 := broadcastInDim S4096x1 ![0] bcast_S4096_S4096x1_0 v4
  let c_1 : IVec S1 32 := constantI S1 32 99999#32
  let c_2 : IVec S_ 32 := constantI S_ 32 0#32
  let v6 : IVec S4096x1 32 := broadcastInDim S4096x1 ![] bcast_S_S4096x1 c_2
  let v7 : IVec S4096x1 1 := cmpi .sge v5 v6
  let v8 : IVec S1x1 32 := broadcastInDim S1x1 ![1] bcast_S1_S1x1_1 c_1
  let v9 : IVec S4096x1 32 := broadcastInDim S4096x1 ![0, 1] bcast_S1x1_S4096x1_0_1 v8
  let v10 : IVec S4096x1 1 := cmpi .sle v5 v9
  let v11 : IVec S4096x1 1 := andi v7 v10
  let c_3 : IVec S_ 1 := constantI S_ 1 1#1
  let v12 : IVec S4096 1 := (fun x v => Host.reduce IntOp.andi x v reducesTo_S4096x1_S4096_d1 h_S_) v11 c_3
  let v13 : FVec F S4096x1000 .f32 := (fun x i => Host.gather gather_S100000x1000_S4096x1_S4096x1000_1_0_n_n_0_1_11000 x i) arg0 v5
  let v14 : IVec S4096x1000 1 := broadcastInDim S4096x1000 ![0] bcast_S4096_S4096x1000_0 v12
  let cst : FVec F S_ .f32 := constant S_ .f32 0x7FC00000#32
  let v15 : FVec F S4096x1000 .f32 := broadcastInDim S4096x1000 ![] bcast_S_S4096x1000 cst
  let v16 : FVec F S4096x1000 .f32 := select v14 v13 v15
  v16

def fn {F : FTy → Type} [FloatOps F] (main_arg0 : IVec S4096 32) (main_arg1 : FVec F S4096x1000 .f32) (main_arg2 : FVec F S100000x1000 .f32) : IVec S_ 1 :=
  let main_cst : FVec F S_ .f32 := constant S_ .f32 0xFF800000#32
  let main_v0 : FVec F S4096 .f32 := (fun x v => Host.reduce FloatOps.maximumf x v reducesTo_S4096x1000_S4096_d1 h_S_) main_arg1 main_cst
  let main_v1 : FVec F S4096x1000 .f32 := fn_take (F := F) main_arg2 main_arg0
  let main_cst_0 : FVec F S_ .f32 := constant S_ .f32 0x00000000#32
  let main_v2 : FVec F S4096x1000 .f32 := broadcastInDim S4096x1000 ![] bcast_S_S4096x1000 main_cst_0
  let main_v3 : IVec S4096x1000 1 := cmpf .oeq main_v1 main_v2
  let main_c : IVec S_ 1 := constantI S_ 1 1#1
  let main_v4 : IVec S_ 1 := (fun x v => Host.reduce IntOp.andi x v reducesTo_S4096x1000_S_d0_1 h_S_) main_v3 main_c
  let main_cst_1 : FVec F S_ .f32 := constant S_ .f32 0xFF800000#32
  let main_v5 : FVec F S4096 .f32 := broadcastInDim S4096 ![] bcast_S_S4096 main_cst_1
  let main_v6 : IVec S4096 1 := cmpf .ogt main_v0 main_v5
  let main_cst_2 : FVec F S_ .f32 := constant S_ .f32 0x7F800000#32
  let main_v7 : FVec F S4096 .f32 := broadcastInDim S4096 ![] bcast_S_S4096 main_cst_2
  let main_v8 : IVec S4096 1 := cmpf .olt main_v0 main_v7
  let main_v9 : IVec S4096 1 := andi main_v6 main_v8
  let main_c_3 : IVec S_ 1 := constantI S_ 1 1#1
  let main_v10 : IVec S_ 1 := (fun x v => Host.reduce IntOp.andi x v reducesTo_S4096_S_d0 h_S_) main_v9 main_c_3
  let main_v11 : IVec S_ 1 := andi main_v4 main_v10
  main_v11
-- ==== Kernel.lean ====
abbrev S4096 : Shape := ⟨1, ![4096]⟩
abbrev S4096x1000 : Shape := ⟨2, ![4096, 1000]⟩
abbrev S100000x1000 : Shape := ⟨2, ![100000, 1000]⟩
abbrev S1x1 : Shape := ⟨2, ![1, 1]⟩
abbrev S1024x1000 : Shape := ⟨2, ![1024, 1000]⟩
abbrev S1000x1 : Shape := ⟨2, ![1000, 1]⟩
abbrev S1024x1 : Shape := ⟨2, ![1024, 1]⟩
abbrev S1 : Shape := ⟨1, ![1]⟩
abbrev S_ : Shape := ⟨0, ![]⟩

abbrev nBuf : Space → Nat
  | .hbm => 5
  | .vmem => 3
  | .smem => 0
  | _ => 0

abbrev bufTy : (tb : Table) → Fin (tcTables nBuf tb) → BufTy
  | .hbm, ⟨0, _⟩ => ⟨S4096, .i32⟩
  | .hbm, ⟨1, _⟩ => ⟨S4096x1000, .f32⟩
  | .hbm, ⟨2, _⟩ => ⟨S100000x1000, .f32⟩
  | .hbm, ⟨3, _⟩ => ⟨S1x1, .f32⟩
  | .hbm, ⟨4, _⟩ => ⟨S_, .f32⟩
  | .local _ .vmem, ⟨0, _⟩ => ⟨S1024x1000, .f32⟩
  | .local _ .vmem, ⟨1, _⟩ => ⟨S1024x1000, .f32⟩
  | .local _ .vmem, ⟨2, _⟩ => ⟨S1x1, .f32⟩
  | _, _ => ⟨S4096, .i32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_sem0_0 : DmaSem sig := 0
abbrev cc0_sem0_1 : DmaSem sig := 1
abbrev cc0_sem1_0 : DmaSem sig := 2

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]
-- ==== ReferenceIdeal.lean ====
abbrev S4096 : Shape := ⟨1, ![4096]⟩
abbrev S4096x1000 : Shape := ⟨2, ![4096, 1000]⟩
abbrev S100000x1000 : Shape := ⟨2, ![100000, 1000]⟩
abbrev S_ : Shape := ⟨0, ![]⟩
abbrev S4096x1 : Shape := ⟨2, ![4096, 1]⟩
abbrev S1 : Shape := ⟨1, ![1]⟩
abbrev S1x1 : Shape := ⟨2, ![1, 1]⟩

abbrev nBuf : Space → Nat
  | .hbm => 87
  | .vmem => 0
  | .smem => 0
  | _ => 0

abbrev bufTy : (tb : Table) → Fin (tcTables nBuf tb) → BufTy
  | .hbm, ⟨0, _⟩ => ⟨S4096, .i32⟩
  | .hbm, ⟨1, _⟩ => ⟨S4096x1000, .f32⟩
  | .hbm, ⟨2, _⟩ => ⟨S100000x1000, .f32⟩
  | .hbm, ⟨3, _⟩ => ⟨S_, .f32⟩
  | .hbm, ⟨4, _⟩ => ⟨S4096, .f32⟩
  | .hbm, ⟨5, _⟩ => ⟨S_, .f32⟩
  | .hbm, ⟨6, _⟩ => ⟨S4096, .f32⟩
  | .hbm, ⟨7, _⟩ => ⟨S4096, .f32⟩
  | .hbm, ⟨8, _⟩ => ⟨S4096x1, .f32⟩
  | .hbm, ⟨9, _⟩ => ⟨S4096x1000, .f32⟩
  | .hbm, ⟨10, _⟩ => ⟨S4096x1000, .f32⟩
  | .hbm, ⟨11, _⟩ => ⟨S4096x1000, .f32⟩
  | .hbm, ⟨12, _⟩ => ⟨S_, .f32⟩
  | .hbm, ⟨13, _⟩ => ⟨S4096, .f32⟩
  | .hbm, ⟨14, _⟩ => ⟨S4096x1, .f32⟩
  | .hbm, ⟨15, _⟩ => ⟨S4096x1000, .f32⟩
  | .hbm, ⟨16, _⟩ => ⟨S4096x1000, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S4096x1000, .f32⟩
  | .hbm, ⟨21, _⟩ => ⟨S4096x1000, .f32⟩
  | .hbm, ⟨22, _⟩ => ⟨S_, .f32⟩
  | .hbm, ⟨23, _⟩ => ⟨S4096x1000, .f32⟩
  | .hbm, ⟨24, _⟩ => ⟨S4096x1000, .f32⟩
  | .hbm, ⟨25, _⟩ => ⟨S_, .i32⟩
  | .hbm, ⟨26, _⟩ => ⟨S4096, .i32⟩
  | .hbm, ⟨27, _⟩ => ⟨S4096, .i1⟩
  | .hbm, ⟨28, _⟩ => ⟨S_, .i32⟩
  | .hbm, ⟨29, _⟩ => ⟨S4096, .i32⟩
  | .hbm, ⟨30, _⟩ => ⟨S4096, .i32⟩
  | .hbm, ⟨31, _⟩ => ⟨S4096, .i32⟩
  | .hbm, ⟨32, _⟩ => ⟨S4096x1, .i32⟩
  | .hbm, ⟨33, _⟩ => ⟨S1, .i32⟩
  | .hbm, ⟨34, _⟩ => ⟨S_, .i32⟩
  | .hbm, ⟨35, _⟩ => ⟨S4096x1, .i32⟩
  | .hbm, ⟨36, _⟩ => ⟨S4096x1, .i1⟩
  | .hbm, ⟨37, _⟩ => ⟨S1x1, .i32⟩
  | .hbm, ⟨38, _⟩ => ⟨S4096x1, .i32⟩
  | .hbm, ⟨39, _⟩ => ⟨S4096x1, .i1⟩
  | .hbm, ⟨40, _⟩ => ⟨S4096x1, .i1⟩
  | .hbm, ⟨41, _⟩ => ⟨S_, .i1⟩
  | .hbm, ⟨42, _⟩ => ⟨S4096, .i1⟩
  | .hbm, ⟨43, _⟩ => ⟨S4096x1000, .f32⟩
  | .hbm, ⟨44, _⟩ => ⟨S4096x1000, .i1⟩
  | .hbm, ⟨45, _⟩ => ⟨S_, .f32⟩
  | .hbm, ⟨46, _⟩ => ⟨S4096x1000, .f32⟩
  | .hbm, ⟨47, _⟩ => ⟨S4096x1000, .f32⟩
  | .hbm, ⟨48, _⟩ => ⟨S_, .f32⟩
  | .hbm, ⟨49, _⟩ => ⟨S4096x1000, .f32⟩
  | .hbm, ⟨50, _⟩ => ⟨S4096x1000, .f32⟩
  | .hbm, ⟨51, _⟩ => ⟨S_, .f32⟩
  | .hbm, ⟨52, _⟩ => ⟨S4096, .f32⟩
  | .hbm, ⟨53, _⟩ => ⟨S4096x1, .f32⟩
  | .hbm, ⟨54, _⟩ => ⟨S4096x1000, .f32⟩
  | .hbm, ⟨55, _⟩ => ⟨S4096x1000, .f32⟩
  | .hbm, ⟨56, _⟩ => ⟨S_, .f32⟩
  | .hbm, ⟨57, _⟩ => ⟨S4096x1000, .f32⟩
  | .hbm, ⟨58, _⟩ => ⟨S4096x1000, .f32⟩
  | .hbm, ⟨59, _⟩ => ⟨S4096x1000, .f32⟩
  | .hbm, ⟨60, _⟩ => ⟨S_, .i32⟩
  | .hbm, ⟨61, _⟩ => ⟨S4096, .i32⟩
  | .hbm, ⟨62, _⟩ => ⟨S4096, .i1⟩
  | .hbm, ⟨63, _⟩ => ⟨S_, .i32⟩
  | .hbm, ⟨64, _⟩ => ⟨S4096, .i32⟩
  | .hbm, ⟨65, _⟩ => ⟨S4096, .i32⟩
  | .hbm, ⟨66, _⟩ => ⟨S4096, .i32⟩
  | .hbm, ⟨67, _⟩ => ⟨S4096x1, .i32⟩
  | .hbm, ⟨68, _⟩ => ⟨S100000x1000, .f32⟩
  | .hbm, ⟨69, _⟩ => ⟨S4096x1000, .f32⟩
  | .hbm, ⟨70, _⟩ => ⟨S_, .f32⟩
  | .hbm, ⟨71, _⟩ => ⟨S4096, .f32⟩
  | .hbm, ⟨72, _⟩ => ⟨S_, .f32⟩
  | .hbm, ⟨73, _⟩ => ⟨S4096, .f32⟩
  | .hbm, ⟨74, _⟩ => ⟨S4096, .f32⟩
  | .hbm, ⟨75, _⟩ => ⟨S4096, .f32⟩
  | .hbm, ⟨76, _⟩ => ⟨S_, .f32⟩
  | .hbm, ⟨77, _⟩ => ⟨S_, .f32⟩
  | .hbm, ⟨78, _⟩ => ⟨S_, .f32⟩
  | .hbm, ⟨79, _⟩ => ⟨S_, .f32⟩
  | .hbm, ⟨80, _⟩ => ⟨S_, .f32⟩
  | .hbm, ⟨81, _⟩ => ⟨S_, .f32⟩
  | .hbm, ⟨82, _⟩ => ⟨S1x1, .f32⟩
  | .hbm, ⟨83, _⟩ => ⟨S_, .f32⟩
  | .hbm, ⟨84, _⟩ => ⟨S_, .f32⟩
  | .hbm, ⟨85, _⟩ => ⟨S_, .f32⟩
  | .hbm, ⟨86, _⟩ => ⟨S_, .f32⟩
  | _, _ => ⟨S4096, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_2 : Ref sig .tc := ⟨.hbm, 17, rfl⟩
abbrev main_cst_3 : Ref sig .tc := ⟨.hbm, 18, rfl⟩
abbrev main_call0_v0 : Ref sig .tc := ⟨.hbm, 19, rfl⟩
abbrev main_call0_v1 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_v11 : Ref sig .tc := ⟨.hbm, 24, rfl⟩
abbrev main_call1_c : Ref sig .tc := ⟨.hbm, 25, rfl⟩
abbrev main_call1_v0 : Ref sig .tc := ⟨.hbm, 26, rfl⟩
abbrev main_call1_v1 : Ref sig .tc := ⟨.hbm, 27, rfl⟩
abbrev main_call1_c_0 : Ref sig .tc := ⟨.hbm, 28, rfl⟩
abbrev main_call1_v2 : Ref sig .tc := ⟨.hbm, 29, rfl⟩
abbrev main_call1_v3 : Ref sig .tc := ⟨.hbm, 30, rfl⟩
abbrev main_call1_v4 : Ref sig .tc := ⟨.hbm, 31, rfl⟩
abbrev main_call1_v5 : Ref sig .tc := ⟨.hbm, 32, rfl⟩
abbrev main_call1_c_1 : Ref sig .tc := ⟨.hbm, 33, rfl⟩
abbrev main_call1_c_2 : Ref sig .tc := ⟨.hbm, 34, rfl⟩
abbrev main_call1_v6 : Ref sig .tc := ⟨.hbm, 35, rfl⟩
abbrev main_call1_v7 : Ref sig .tc := ⟨.hbm, 36, rfl⟩
abbrev main_call1_v8 : Ref sig .tc := ⟨.hbm, 37, rfl⟩
abbrev main_call1_v9 : Ref sig .tc := ⟨.hbm, 38, rfl⟩
abbrev main_call1_v10 : Ref sig .tc := ⟨.hbm, 39, rfl⟩
abbrev main_call1_v11 : Ref sig .tc := ⟨.hbm, 40, rfl⟩
abbrev main_call1_c_3 : Ref sig .tc := ⟨.hbm, 41, rfl⟩
abbrev main_call1_v12 : Ref sig .tc := ⟨.hbm, 42, rfl⟩
abbrev main_call1_v13 : Ref sig .tc := ⟨.hbm, 43, rfl⟩
abbrev main_call1_v14 : Ref sig .tc := ⟨.hbm, 44, rfl⟩
abbrev main_call1_cst : Ref sig .tc := ⟨.hbm, 45, rfl⟩
abbrev main_call1_v15 : Ref sig .tc := ⟨.hbm, 46, rfl⟩
abbrev main_v12 : Ref sig .tc := ⟨.hbm, 47, rfl⟩
abbrev main_cst_4 : Ref sig .tc := ⟨.hbm, 48, rfl⟩
abbrev main_v13 : Ref sig .tc := ⟨.hbm, 49, rfl⟩
abbrev main_v14 : Ref sig .tc := ⟨.hbm, 50, rfl⟩
abbrev main_cst_5 : Ref sig .tc := ⟨.hbm, 51, rfl⟩
abbrev main_v15 : Ref sig .tc := ⟨.hbm, 52, rfl⟩
abbrev main_v16 : Ref sig .tc := ⟨.hbm, 53, rfl⟩
abbrev main_v17 : Ref sig .tc := ⟨.hbm, 54, rfl⟩
abbrev main_v18 : Ref sig .tc := ⟨.hbm, 55, rfl⟩
abbrev main_cst_6 : Ref sig .tc := ⟨.hbm, 56, rfl⟩
abbrev main_v19 : Ref sig .tc := ⟨.hbm, 57, rfl⟩
abbrev main_v20 : Ref sig .tc := ⟨.hbm, 58, rfl⟩
abbrev main_v21 : Ref sig .tc := ⟨.hbm, 59, rfl⟩
abbrev main_c : Ref sig .tc := ⟨.hbm, 60, rfl⟩
abbrev main_v22 : Ref sig .tc := ⟨.hbm, 61, rfl⟩
abbrev main_v23 : Ref sig .tc := ⟨.hbm, 62, rfl⟩
abbrev main_c_7 : Ref sig .tc := ⟨.hbm, 63, rfl⟩
abbrev main_v24 : Ref sig .tc := ⟨.hbm, 64, rfl⟩
abbrev main_v25 : Ref sig .tc := ⟨.hbm, 65, rfl⟩
abbrev main_v26 : Ref sig .tc := ⟨.hbm, 66, rfl⟩
abbrev main_v27 : Ref sig .tc := ⟨.hbm, 67, rfl⟩
abbrev main_v28 : Ref sig .tc := ⟨.hbm, 68, rfl⟩
abbrev main_v29 : Ref sig .tc := ⟨.hbm, 69, rfl⟩
abbrev main_cst_8 : Ref sig .tc := ⟨.hbm, 70, rfl⟩
abbrev main_v30 : Ref sig .tc := ⟨.hbm, 71, rfl⟩
abbrev main_cst_9 : Ref sig .tc := ⟨.hbm, 72, rfl⟩
abbrev main_v31 : Ref sig .tc := ⟨.hbm, 73, rfl⟩
abbrev main_v32 : Ref sig .tc := ⟨.hbm, 74, rfl⟩
abbrev main_v33 : Ref sig .tc := ⟨.hbm, 75, rfl⟩
abbrev main_cst_10 : Ref sig .tc := ⟨.hbm, 76, rfl⟩
abbrev main_v34 : Ref sig .tc := ⟨.hbm, 77, rfl⟩
abbrev main_cst_11 : Ref sig .tc := ⟨.hbm, 78, rfl⟩
abbrev main_v35 : Ref sig .tc := ⟨.hbm, 79, rfl⟩
abbrev main_cst_12 : Ref sig .tc := ⟨.hbm, 80, rfl⟩
abbrev main_v36 : Ref sig .tc := ⟨.hbm, 81, rfl⟩
abbrev main_v37 : Ref sig .tc := ⟨.hbm, 82, rfl⟩
abbrev main_v38 : Ref sig .tc := ⟨.hbm, 83, rfl⟩
abbrev main_cst_13 : Ref sig .tc := ⟨.hbm, 84, rfl⟩
abbrev main_v39 : Ref sig .tc := ⟨.hbm, 85, rfl⟩
abbrev main_v40 : Ref sig .tc := ⟨.hbm, 86, rfl⟩

abbrev nD : Nat := 1
abbrev τ : Topo := Topo.v7x

variable {F : FTy → Type} [FloatOps F]
-- ==== Proof.Reference.lean ====
/- Hand-written. The reference's result, first as a short chain of named array expressions, then read at an index over the
   extended reals. -/
module

public import proofs.«01_k».proof.Proof.Gen.ReferenceIdeal.Run
public import proofs.«01_k».proof.Proof.Gen.Pre_fresh_rows
public import Idealize.ShloMosaic.Lib.Pointwise
public import Idealize.ShloMosaic.Lib.Tactic.CleanTypes

@[expose] public section

set_option maxRecDepth 16384

noncomputable section

namespace Cert.ReferenceIdeal.Elr

open Idealize.ShloMosaic Idealize.ShloMosaic.TcCoe Idealize.SL.Sem
open Cert.ReferenceIdeal Cert.ReferenceIdeal.Gen

/-- A column of row values spread over the row. -/
abbrev spread (v : FVec Ideal S4096 .f32) : FVec Ideal S4096x1000 .f32 :=
  broadcastInDim S4096x1000 ![0, 1] bcast_S4096x1_S4096x1000_0_1 (broadcastInDim S4096x1 ![0] bcast_S4096_S4096x1_0 v)

/-- A scalar word at every place of the array. -/
abbrev fill (w : BitVec 32) : FVec Ideal S4096x1000 .f32 :=
  broadcastInDim S4096x1000 ![] bcast_S_S4096x1000 (constant S_ .f32 w)

/-- Each row's sum. -/
abbrev rowSum (v : FVec Ideal S4096x1000 .f32) : FVec Ideal S4096 .f32 :=
  Host.reduceAdd v (constant S_ .f32 0x00000000#32) reducesTo_S4096x1000_S4096_d1 h_S_

/-- Each row's largest logit. -/
def rowMax (x : FVec Ideal S4096x1000 .f32) : FVec Ideal S4096 .f32 :=
  Host.reduce FloatOps.maximumf x (constant S_ .f32 0xFF800000#32) reducesTo_S4096x1000_S4096_d1 h_S_

/-- The exponentials of the logits less a number of the row's, the row's largest in the reference. -/
def shifted (x : FVec Ideal S4096x1000 .f32) (M : FVec Ideal S4096 .f32) : FVec Ideal S4096x1000 .f32 :=
  Host.exp (subf x (spread (maximumf (broadcastInDim S4096 ![] bcast_S_S4096 (constant S_ .f32 0xFF800000#32)) M)))

/-- The clipped softmax, of the exponentials. -/
def prob (e : FVec Ideal S4096x1000 .f32) : FVec Ideal S4096x1000 .f32 :=
  minimumf (fill 0x3F7FF972#32) (maximumf (fill 0x38D1B717#32) (Host.divf e (spread (rowSum e))))

/-- The new rows of the moving average, of the rows taken from the old one and the clipped softmax. -/
def rows (o p : FVec Ideal S4096x1000 .f32) : FVec Ideal S4096x1000 .f32 :=
  addf (mulf (fill 0x3F333333#32) o) (mulf (fill 0x3E99999A#32) (Host.divf p (spread (rowSum p))))

/-- The logarithm that each row contributes. -/
def logs (o p : FVec Ideal S4096x1000 .f32) : FVec Ideal S4096 .f32 :=
  Host.log (subf (broadcastInDim S4096 ![] bcast_S_S4096 (constant S_ .f32 0x3F800000#32)) (rowSum (mulf (rows o p) p)))

/-- The mean of them, times three. -/
def mean (v : FVec Ideal S4096 .f32) : FVec Ideal S_ .f32 :=
  mulf (constant S_ .f32 0x40400000#32) (Host.divf (Host.reduceAdd v (constant S_ .f32 0x00000000#32) reducesTo_S4096_S_d0 h_S_)
    (constant S_ .f32 0x45800000#32))

/-- The reference's first summand, of its arguments. -/
def value (i : IVec S4096 32) (x : FVec Ideal S4096x1000 .f32) (e : FVec Ideal S100000x1000 .f32) : FVec Ideal S_ .f32 :=
  mean (logs (Cert.Pre_fresh_rows.fn_take e i) (prob (shifted x (rowMax x))))

variable (m : (ℓ : Loc nD τ sig) → Buf (Elt Ideal) ℓ) (c : Dev nD)

/-- The reference's result is three times the mean, plus zero times an element of the moving average. -/
theorem result_eq : ∃ z : FVec Ideal S_ .f32, Value.res_main_v40 m c
    = addf (value (m (c.tc.loc main_arg0)) (m (c.tc.loc main_arg1)) (m (c.tc.loc main_arg2)))
      (mulf (constant S_ .f32 0x00000000#32) z) := by
  unfold Value.res_main_v40
  exact ⟨_, rfl⟩

/-- A row's largest logit, as the maximum taken one logit after the other. -/
theorem rowMax_apply (x : FVec Ideal S4096x1000 .f32) (r : Fin 4096) : rowMax x (ix1 r)
    = Finset.fold max (Ideal.ofBits FTy.f32 0xFF800000#32) (fun j : Fin 1000 => x (ix2 r j)) Finset.univ := by
  pointwise [rowMax]

/-- The exponential of a logit less its row's largest one. -/
theorem shifted_apply (x : FVec Ideal S4096x1000 .f32) (M : FVec Ideal S4096 .f32) (r : Fin 4096) (j : Fin 1000) :
    shifted x M (ix2 r j) = Ideal.exp (x (ix2 r j) - max (Ideal.ofBits FTy.f32 0xFF800000#32) (M (ix1 r))) := by
  pointwise [shifted]

/-- A clipped probability: the exponential over its row's sum, kept between the two bounds. -/
theorem prob_apply (e : FVec Ideal S4096x1000 .f32) (r : Fin 4096) (j : Fin 1000) : prob e (ix2 r j)
    = min (Ideal.ofBits .f32 0x3F7FF972#32) (max (Ideal.ofBits .f32 0x38D1B717#32)
        (Ideal.div (e (ix2 r j)) (∑ k : Fin 1000, e (ix2 r k)))) := by
  pointwise [prob]

/-- A row's logarithm: of one less the sum of its new moving averages times its probabilities. -/
theorem logs_apply (o p : FVec Ideal S4096x1000 .f32) (r : Fin 4096) : logs o p (ix1 r)
    = Ideal.log (1 - ∑ j : Fin 1000, (Ideal.ofBits .f32 0x3F333333#32 * o (ix2 r j)
        + Ideal.ofBits .f32 0x3E99999A#32 * Ideal.div (p (ix2 r j)) (∑ k : Fin 1000, p (ix2 r k))) * p (ix2 r j)) := by
  pointwise [logs, rows]

/-- The loss: three times the sum of the rows' logarithms over their number. -/
theorem mean_apply (v : FVec Ideal S4096 .f32) (i : S_.Idx) : mean v i
    = Ideal.ofBits .f32 0x40400000#32 * Ideal.div (∑ r : Fin 4096, v (ix1 r)) (Ideal.ofBits .f32 0x45800000#32) := by
  pointwise [mean]

end Cert.ReferenceIdeal.Elr

end
-- ==== Proof.Words.lean ====
/- Hand-written. The numbers that the float words of the two programs stand for. -/
module

public import Idealize.ShloMosaic.PureOps.Ideal

@[expose] public section

namespace Cert.Words

open Idealize.ShloMosaic

/-- The lower clipping bound is a positive real number. -/
theorem lower : ∃ r : ℝ, 0 < r ∧ Ideal.ofBits .f32 0x38D1B717#32 = (r : EReal) := by
  refine ⟨13743895 / 2 ^ 37, by norm_num, ?_⟩
  simp [Ideal.ofBits, Ideal.ieee, -EReal.coe_mul]
  norm_num

/-- The upper clipping bound is a positive real number. -/
theorem upper : ∃ r : ℝ, 0 < r ∧ Ideal.ofBits .f32 0x3F7FF972#32 = (r : EReal) := by
  refine ⟨16775538 / 2 ^ 24, by norm_num, ?_⟩
  simp [Ideal.ofBits, Ideal.ieee, -EReal.coe_mul]
  norm_num

/-- The weight of the new rows is a real number. -/
theorem fresh : ∃ r : ℝ, Ideal.ofBits .f32 0x3E99999A#32 = (r : EReal) :=
  ⟨_, by simp only [Ideal.ofBits, Ideal.ieee]; norm_num; rfl⟩

/-- The weight of the old rows is a real number. -/
theorem kept : ∃ r : ℝ, Ideal.ofBits .f32 0x3F333333#32 = (r : EReal) :=
  ⟨_, by simp only [Ideal.ofBits, Ideal.ieee]; norm_num; rfl⟩

/-- The word for minus infinity. -/
theorem bot : Ideal.ofBits .f32 0xFF800000#32 = ⊥ := by simp [Ideal.ofBits, Ideal.ieee]

/-- The word for plus infinity. -/
theorem top : Ideal.ofBits .f32 0x7F800000#32 = ⊤ := by simp [Ideal.ofBits, Ideal.ieee]

/-- Three times a quotient by 4096 is the product with the kernel's one factor, 3 / 4096. -/
theorem scale (s : EReal) : Ideal.ofBits .f32 0x40400000#32 * Ideal.div s (Ideal.ofBits .f32 0x45800000#32)
    = s * Ideal.ofBits .f32 0x3A400000#32 := by
  have h3 : Ideal.ofBits .f32 0x40400000#32 = ((3 : ℝ) : EReal) := by
    simp [Ideal.ofBits, Ideal.ieee, -EReal.coe_mul]; norm_num
  have h4 : Ideal.ofBits .f32 0x45800000#32 = ((4096 : ℝ) : EReal) := by
    simp [Ideal.ofBits, Ideal.ieee, -EReal.coe_mul]; norm_num
  have h5 : Ideal.ofBits .f32 0x3A400000#32 = ((3 / 4096 : ℝ) : EReal) := by
    simp [Ideal.ofBits, Ideal.ieee, -EReal.coe_mul]; norm_num
  rw [h3, h4, h5, Ideal.div_coe (by norm_num), mul_left_comm, ← EReal.coe_mul]
  congr 2
  norm_num

end Cert.Words

end
-- ==== Proof.Fresh.lean ====
/- Hand-written. What the precondition says: every element of the rows taken from the old moving average is zero, and each
   row of logits has a largest element that is neither infinity. -/
module

public import proofs.«01_k».proof.Proof.Reference
public import proofs.«01_k».proof.Proof.Words
public import Idealize.ShloMosaic.Lib.ReduceAll

@[expose] public section

set_option maxRecDepth 16384

noncomputable section

namespace Cert.Fresh

open Idealize.ShloMosaic Cert.ReferenceIdeal

instance : Subsingleton S_.Idx := ⟨fun _ _ => funext fun a => a.elim0⟩

/-- A truth value stored as one bit. -/
theorem of_bit {p : Prop} [Decidable p] (h : BitVec.ofBool (decide p) = 1#1) : p := by
  by_contra hp
  simp [hp] at h

/-- Every element equal to zero, read off the mask of the comparison. -/
theorem zero_of_mask (o : FVec Ideal S4096x1000 .f32) (r : Fin 4096) (j : Fin 1000)
    (h : cmpf CmpFPredicate.oeq o (Elr.fill 0x00000000#32) (ix2 r j) = 1#1) : o (ix2 r j) = 0 := by
  pointwise at h
  simpa using of_bit h

/-- A number strictly between the infinities, read off the masks of the two comparisons. -/
theorem between_of_masks (M : FVec Ideal S4096 .f32) (r : Fin 4096)
    (h : andi (cmpf CmpFPredicate.ogt M (broadcastInDim S4096 ![] Gen.bcast_S_S4096 (constant S_ .f32 0xFF800000#32)))
      (cmpf CmpFPredicate.olt M (broadcastInDim S4096 ![] Gen.bcast_S_S4096 (constant S_ .f32 0x7F800000#32))) (ix1 r) = 1#1) :
    ⊥ < M (ix1 r) ∧ M (ix1 r) < ⊤ := by
  pointwise at h
  rw [Words.bot, Words.top] at h
  have h2 := IntOp.andi_eq_one.mp h
  exact ⟨of_bit h2.1, of_bit h2.2⟩

variable (i : IVec S4096 32) (x : FVec Ideal S4096x1000 .f32) (e : FVec Ideal S100000x1000 .f32)

/-- The two halves of the precondition. -/
theorem halves (h : Cert.Pre_fresh_rows.fn (F := Ideal) i x e = fun _ => 1#1) :
    (∀ r j, Cert.Pre_fresh_rows.fn_take e i (ix2 r j) = 0)
    ∧ ∀ r, ⊥ < Elr.rowMax x (ix1 r) ∧ Elr.rowMax x (ix1 r) < ⊤ := by
  have h0 := congrFun h ix0
  unfold Cert.Pre_fresh_rows.fn at h0
  have h1 := IntOp.andi_eq_one.mp h0
  exact ⟨fun r j => zero_of_mask _ r j (Host.reduce_andi_all _ _ _ _ _ h1.1 (ix2 r j)),
    fun r => between_of_masks _ r (Host.reduce_andi_all _ _ _ _ _ h1.2 (ix1 r))⟩

/-- No logit of a row whose largest one is below plus infinity is plus infinity. -/
theorem below (h : ∀ r, ⊥ < Elr.rowMax x (ix1 r) ∧ Elr.rowMax x (ix1 r) < ⊤) (r : Fin 4096) (j : Fin 1000) :
    x (ix2 r j) < ⊤ := by
  refine lt_of_le_of_lt ?_ (h r).2
  rw [Elr.rowMax_apply]
  exact Finset.le_fold_max (x (ix2 r j)) |>.mpr (.inr ⟨j, Finset.mem_univ _, le_rfl⟩)

/-- Some logit of a row whose largest one is above minus infinity is above it. -/
theorem above (h : ∀ r, ⊥ < Elr.rowMax x (ix1 r) ∧ Elr.rowMax x (ix1 r) < ⊤) (r : Fin 4096) :
    ∃ j : Fin 1000, ⊥ < x (ix2 r j) := by
  have hr := (h r).1
  rw [Elr.rowMax_apply, Words.bot, Finset.lt_fold_max] at hr
  rcases hr with hr | ⟨j, -, hj⟩
  · exact absurd hr (lt_irrefl _)
  · exact ⟨j, hj⟩

end Cert.Fresh

end
-- ==== Proof.KernelRun.lean ====
/- Hand-written. What the kernel's run leaves in its result: at points 0, 1, 2, 3 of the grid the one-element output
   block is reset and added to, added to, added to, and added to and scaled; the line after the call reads that element. -/
module

public import proofs.«01_k».proof.Proof.Gen.KernelIdeal.Frame
public import Idealize.ShloMosaic.Lib.Pipeline.ValueKit
public import Idealize.ShloMosaic.Lib.Claim

@[expose] public section

set_option maxRecDepth 16384

noncomputable section

namespace Cert.KernelIdeal.Elr

open Idealize.ShloMosaic Idealize.ShloMosaic.TcCoe Idealize.ShloMosaic.Tactic Idealize.SL.Sem
open Cert.KernelIdeal Cert.KernelIdeal.Gen

variable {F : FTy → Type} [FloatOps F]
variable (m : (ℓ : Loc nD τ sig) → Buf (Elt F) ℓ) (ρ : Dev nD → PrngReg)

/-- The four blocks' contributions added onto zero in the grid's order, then scaled: the kernel's result as one
    expression in the blocks of logits it reads. -/
def total (c : Dev nD) : Vec F S1x1 .f32 :=
  k0_pay3 (k0_pay2 (iblk m c 0 t0_3) (k0_pay2 (iblk m c 0 t0_2) (k0_pay2 (iblk m c 0 t0_1)
    (k0_pay2 (iblk m c 0 t0_0) k0_pay1))))

/-- What the output block holds after a point of the grid. -/
abbrev held (c : Dev nD) (t : Fin cfg0.N) : Vec F S1x1 .f32 := outsAt0 m c t.val t.isLt

/-- After the first point the output block holds the first block's contribution added onto zero. -/
theorem after_first (c : Dev nD) : held m c t0_0 = k0_pay2 (iblk m c 0 t0_0) k0_pay1 := by
  refine (outsAt0_A m c t0_0 (by decide) (by decide)).trans ?_
  funext y
  frame_out

/-- After the second point it holds the second block's contribution added onto that. -/
theorem after_second (c : Dev nD) : held m c t0_1 = k0_pay2 (iblk m c 0 t0_1) (held m c t0_0) := by
  refine (outsAt0_B m c t0_1 (by decide) (by decide)).trans ?_
  funext y
  frame_out
  rfl

/-- After the third point, the third block's. -/
theorem after_third (c : Dev nD) : held m c t0_2 = k0_pay2 (iblk m c 0 t0_2) (held m c t0_1) := by
  refine (outsAt0_B m c t0_2 (by decide) (by decide)).trans ?_
  funext y
  frame_out
  rfl

/-- At the last point the last block's contribution is added and the sum is scaled. -/
theorem after_last (c : Dev nD) : held m c t0_3 = total m c := by
  unfold total
  rw [← after_first m c, ← after_second m c, ← after_third m c]
  refine (outsAt0_C m c t0_3 (by decide) (by decide)).trans ?_
  funext y
  frame_out
  rfl

/-- So the result array of the call ends holding it. -/
theorem array_eq (c : Dev nD) : (dats m 0 c).arrAt 1 cfg0.N = total m c := by
  refine (dats m 0 c).arrAt_eq_of_after_last 1 t0_3 (by decide +kernel) _ fun j => ?_
  rw [after0_1]
  exact congrFun (after_last m c) j

/-- The run: the scalar result is the one element of that array, and the arguments are unchanged. -/
theorem run : θ_run defs (onTc (τ := τ) (main (F := F))) ⟨m, fun _ => 0, ρ⟩ fun r => ∀ c : Dev nD,
      r.2.mem ((c : Thread nD τ).loc main_v1) = shapeCast S_ (total m c) shapeCasts_S1x1_S_
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) := by
  refine (θ_run defs _ _).mono (fun r h c => ⟨?_, h.2 c⟩) (θ_run_and (run_main m ρ) (unchanged m ρ))
  refine ((h.1 c).2 main_v1 (Pipeline.mem_restRefs_of main_v1 (by decide) (by decide))).trans ?_
  unfold Pipeline.afterTail₀
  simp only [hostOps1, List.flatten_cons, List.flatten_nil, List.append_nil, List.cons_append, List.nil_append,
    StableHlo.after_cons, StableHlo.after_nil]
  rw [StableHlo.reshape_result]
  exact congrArg (fun v => shapeCast S_ v shapeCasts_S1x1_S_)
    ((Pipeline.withArrays_arr spec0 (by decide) c (V0 m c) (fun w => (dats m 0 c).arrAt w cfg0.N) 1).trans (array_eq m c))

end Cert.KernelIdeal.Elr

end
-- ==== Proof.RowAlgebra.lean ====
/- Hand-written. One row of logits over the extended reals: the kernel's quotient, in which the clipping bounds are
   multiplied by the sum of the exponentials, is the reference's sum over the row, in which the softmax is formed first. -/
module

public import Idealize.ShloMosaic.PureOps.Ideal

@[expose] public section

namespace Cert.Row

open Idealize.ShloMosaic

/-- A finite sum of real numbers is the same number among the extended reals. -/
theorem coe_sum {ι : Type} (s : Finset ι) (f : ι → ℝ) : ((∑ j ∈ s, f j : ℝ) : EReal) = ∑ j ∈ s, (f j : EReal) := by
  classical
  induction s using Finset.induction_on with
  | empty => simp
  | insert a s ha ih => rw [Finset.sum_insert ha, Finset.sum_insert ha, EReal.coe_add, ih]

/-- The lesser of two real numbers is the same number among the extended reals. -/
theorem coe_min (a b : ℝ) : ((min a b : ℝ) : EReal) = min (a : EReal) (b : EReal) :=
  (EReal.coe_strictMono.monotone.map_min)

/-- The greater of two real numbers, likewise. -/
theorem coe_max (a b : ℝ) : ((max a b : ℝ) : EReal) = max (a : EReal) (b : EReal) :=
  (EReal.coe_strictMono.monotone.map_max)

/-- A quotient of real numbers whose divisor is not zero is the real quotient. -/
theorem coe_div (a b : ℝ) (hb : b ≠ 0) : Ideal.div (a : EReal) (b : EReal) = ((a / b : ℝ) : EReal) := by
  rw [Ideal.div_coe hb, ← EReal.coe_mul]
  congr 1
  ring

/-- The exponential of a logit below plus infinity is a real number `e`, not negative and positive unless the logit is
    minus infinity, and the exponential of the logit less `M` is `e` times `exp (-M)`. -/
theorem exp_real (x : EReal) (hx : x < ⊤) (M : ℝ) : ∃ e : ℝ, 0 ≤ e ∧ (⊥ < x → 0 < e) ∧ Ideal.exp x = (e : EReal)
    ∧ Ideal.exp (x - (M : EReal)) = ((e * Real.exp (-M) : ℝ) : EReal) := by
  induction x with
  | bot => exact ⟨0, le_rfl, fun h => absurd h (lt_irrefl _), by simp, by simp⟩
  | top => exact absurd hx (lt_irrefl _)
  | coe r =>
    refine ⟨Real.exp r, (Real.exp_pos r).le, fun _ => Real.exp_pos r, rfl, ?_⟩
    rw [← EReal.coe_sub, Ideal.exp_coe, ← Real.exp_add, sub_eq_add_neg]

variable {n : ℕ}

/-- The kernel's quotient for one row `x`, with bounds `lo`, `hi` and weight `q`. -/
noncomputable def quotient (lo hi q : EReal) (x : Fin n → EReal) : EReal :=
  Ideal.div (q * ∑ j, min (hi * ∑ k, Ideal.exp (x k)) (max (lo * ∑ k, Ideal.exp (x k)) (Ideal.exp (x j)))
      * min (hi * ∑ k, Ideal.exp (x k)) (max (lo * ∑ k, Ideal.exp (x k)) (Ideal.exp (x j))))
    ((∑ j, min (hi * ∑ k, Ideal.exp (x k)) (max (lo * ∑ k, Ideal.exp (x k)) (Ideal.exp (x j)))) * ∑ k, Ideal.exp (x k))

/-- The reference's clipped softmax of one row, `M` being subtracted from the logits. -/
noncomputable def clipped (lo hi M : EReal) (x : Fin n → EReal) (j : Fin n) : EReal :=
  min hi (max lo (Ideal.div (Ideal.exp (x j - M)) (∑ k, Ideal.exp (x k - M))))

/-- They agree on a row that has no plus infinity and is not minus infinity throughout: the reference's sum over the row,
    where the old moving average is zero, is the kernel's quotient. -/
theorem row_eq (lo hi q w : ℝ) (hlo : 0 < lo) (hhi : 0 < hi) (M : ℝ) (x o : Fin n → EReal) (htop : ∀ j, x j < ⊤)
    (hbot : ∃ j, ⊥ < x j) (ho : ∀ j, o j = 0) :
    ∑ j, ((w : EReal) * o j + (q : EReal) * Ideal.div (clipped lo hi M x j) (∑ k, clipped lo hi M x k)) * clipped lo hi M x j
      = quotient lo hi q x := by
  choose e he0 hepos he heM using fun j => exp_real (x j) (htop j) M
  obtain ⟨j₀, hj₀⟩ := hbot
  have hz : 0 < ∑ k, e k := Finset.sum_pos' (fun k _ => he0 k) ⟨j₀, Finset.mem_univ _, hepos j₀ hj₀⟩
  generalize hzz : ∑ k, e k = z at hz
  have hg : 0 < Real.exp (-M) := Real.exp_pos _
  -- the real clipped softmax
  let p : Fin n → ℝ := fun j => min hi (max lo (e j / z))
  have hp : ∀ j, clipped lo hi M x j = (p j : EReal) := fun j => by
    unfold clipped
    simp only [heM]
    rw [← coe_sum, ← Finset.sum_mul, hzz, coe_div _ _ (mul_pos hz hg).ne', mul_div_mul_right _ _ hg.ne', ← coe_max, ← coe_min]
  have hppos : ∀ j, 0 < p j := fun j => lt_min hhi (lt_max_of_lt_left hlo)
  have hS : 0 < ∑ k, p k := Finset.sum_pos (fun k _ => hppos k) ⟨j₀, Finset.mem_univ _⟩
  -- the kernel's clipped exponentials are `z` times it
  have hc : ∀ j, min ((hi : EReal) * ∑ k, Ideal.exp (x k)) (max ((lo : EReal) * ∑ k, Ideal.exp (x k)) (Ideal.exp (x j)))
      = ((z * p j : ℝ) : EReal) := fun j => by
    simp only [he]
    rw [← coe_sum, hzz, ← EReal.coe_mul, ← EReal.coe_mul, ← coe_max, ← coe_min]
    congr 1
    show _ = z * min hi (max lo (e j / z))
    rw [mul_min_of_nonneg _ _ hz.le, mul_max_of_nonneg _ _ hz.le, mul_div_cancel₀ _ hz.ne', mul_comm hi, mul_comm lo]
  unfold quotient
  simp only [hc, hp, ho, mul_zero, zero_add]
  simp only [he, ← EReal.coe_mul, ← coe_sum, hzz]
  rw [coe_div _ _ (by rw [← Finset.mul_sum]; exact (mul_pos (mul_pos hz hS) hz).ne')]
  simp only [coe_div _ _ hS.ne', ← EReal.coe_mul, ← coe_sum]
  congr 1
  rw [← Finset.mul_sum]
  have h1 : ∑ j, z * p j * (z * p j) = z * z * ∑ j, p j * p j := by
    rw [Finset.mul_sum]; exact Finset.sum_congr rfl fun j _ => by ring
  have h2 : ∑ j, q * (p j / ∑ k, p k) * p j = (q / ∑ k, p k) * ∑ j, p j * p j := by
    rw [Finset.mul_sum]; exact Finset.sum_congr rfl fun j _ => by ring
  rw [h1, h2]
  field_simp

end Cert.Row

end
-- ==== Proof.Blocks.lean ====
/- Hand-written. The kernel's result over the extended reals: the logarithms of the 4096 rows, added up a block of 1024 rows
   at a time, times 3 / 4096. -/
module

public import proofs.«01_k».proof.Proof.KernelRun
public import proofs.«01_k».proof.Proof.RowAlgebra
public import Idealize.ShloMosaic.Lib.Pointwise

@[expose] public section

set_option maxRecDepth 16384

noncomputable section

namespace Cert.KernelIdeal.Elr

open Idealize.ShloMosaic Idealize.ShloMosaic.TcCoe Idealize.ShloMosaic.Tactic Idealize.SL.Sem
open Cert.KernelIdeal Cert.KernelIdeal.Gen

/-- What one row of logits contributes: the logarithm of one less its quotient. -/
def rowLog (x : Fin 1000 → EReal) : EReal :=
  Ideal.log (1 - Row.quotient (Ideal.ofBits .f32 0x38D1B717#32) (Ideal.ofBits .f32 0x3F7FF972#32)
    (Ideal.ofBits .f32 0x3E99999A#32) x)

/-- A point of the grid adds the logarithms of its block's rows. -/
theorem step_apply (v0 : Vec Ideal S1024x1000 .f32) (v27 : Vec Ideal S1x1 .f32) :
    k0_pay2 v0 v27 (ix2 0 0) = v27 (ix2 0 0) + ∑ r : Fin 1024, rowLog fun j => v0 (ix2 r j) := by
  unfold rowLog Row.quotient
  pointwise [k0_pay2]

variable (m : (ℓ : Loc nD τ sig) → Buf (Elt Ideal) ℓ) (c : Dev nD)

/-- Row `r` of the block of point `t` is row `1024 t + r` of the logits. -/
theorem block_apply (t : Fin cfg0.N) (r : Fin 1024) (j : Fin 1000) (h : t.val * 1024 + r.val < 4096) :
    iblk m c 0 t (ix2 r j) = m ((c : Thread nD τ).loc main_arg1) (ix2 ⟨t.val * 1024 + r.val, h⟩ j) := by
  have e : win0_0.index t 0 = t.val ∧ win0_0.index t 1 = 0 := by
    rcases fin_N0 t with rfl | rfl | rfl | rfl <;> decide
  blk_ext [iblk, V, e.1, e.2]

/-- A sum over the 4096 rows is the sum of the four blocks' sums, added onto zero in the grid's order. -/
theorem sum_blocks (f : Fin 4096 → EReal) : ∑ r, f r
    = 0 + (∑ r : Fin 1024, f ⟨0 * 1024 + r.val, by omega⟩) + (∑ r : Fin 1024, f ⟨1 * 1024 + r.val, by omega⟩)
      + (∑ r : Fin 1024, f ⟨2 * 1024 + r.val, by omega⟩) + ∑ r : Fin 1024, f ⟨3 * 1024 + r.val, by omega⟩ := by
  have h := Fin.sum_univ_univ_mul_add 4 1024 (fun k => if h : k < 4096 then f ⟨k, h⟩ else 0)
  rw [Fin.sum_univ_four] at h
  have hr : ∀ (b : Fin 4) (r : Fin 1024), b.val * 1024 + r.val < 4096 := fun b r => by omega
  simp only [hr, dite_true, zero_add] at h ⊢
  refine Eq.trans (Finset.sum_congr rfl fun k _ => ?_) h.symm
  exact (dif_pos (c := (k : ℕ) < 4096) (t := fun h => f ⟨k, h⟩) (e := fun _ => (0 : EReal)) k.isLt).symm

/-- The scalar result. -/
theorem result_apply (i : S_.Idx) : shapeCast S_ (total m c) shapeCasts_S1x1_S_ i
    = (∑ r : Fin 4096, rowLog fun j => m ((c : Thread nD τ).loc main_arg1) (ix2 r j)) * Ideal.ofBits .f32 0x3A400000#32 := by
  pointwise [total, k0_pay3]
  have h0 : (k0_pay1 : FVec Ideal S1x1 .f32) (ix2 0 0) = 0 := by pointwise [k0_pay1]
  have hb : ∀ (t : Fin cfg0.N) (k : ℕ) (hk : k < 4) (ht : t.val = k),
      (∑ r : Fin 1024, rowLog fun j => iblk m c 0 t (ix2 r j))
        = ∑ r : Fin 1024, rowLog fun j => m ((c : Thread nD τ).loc main_arg1) (ix2 ⟨k * 1024 + r.val, by omega⟩ j) := by
    rintro t _ hk rfl
    exact Finset.sum_congr rfl fun r _ => congrArg rowLog (funext fun j => block_apply m c t r j (by omega))
  rw [sum_blocks fun r => rowLog fun j => m ((c : Thread nD τ).loc main_arg1) (ix2 r j)]
  rw [step_apply, step_apply, step_apply, step_apply, h0]
  rw [hb t0_0 0 (by omega) rfl, hb t0_1 1 (by omega) rfl, hb t0_2 2 (by omega) rfl, hb t0_3 3 (by omega) rfl]

end Cert.KernelIdeal.Elr

end
-- ==== Proof.Agree.lean ====
/- Hand-written. Under the precondition the reference's result and the kernel's are one extended real. -/
module

public import proofs.«01_k».proof.Proof.Fresh
public import proofs.«01_k».proof.Proof.Blocks

@[expose] public section

set_option maxRecDepth 16384

noncomputable section

namespace Cert.Agree

open Idealize.ShloMosaic Cert.ReferenceIdeal

variable (i : IVec S4096 32) (x : FVec Ideal S4096x1000 .f32) (e : FVec Ideal S100000x1000 .f32)

/-- The reference's logarithm of one row is the kernel's. -/
theorem row (h : Cert.Pre_fresh_rows.fn (F := Ideal) i x e = fun _ => 1#1) (r : Fin 4096) :
    Elr.logs (Cert.Pre_fresh_rows.fn_take e i) (Elr.prob (Elr.shifted x (Elr.rowMax x))) (ix1 r)
      = Cert.KernelIdeal.Elr.rowLog fun j => x (ix2 r j) := by
  obtain ⟨hz, hm⟩ := Fresh.halves i x e h
  have htop := Fresh.below x hm r
  have hbot := Fresh.above x hm r
  have hmr := hm r
  generalize Elr.rowMax x = M at hmr ⊢
  have hz' := hz r
  generalize Cert.Pre_fresh_rows.fn_take e i = o at hz' ⊢
  obtain ⟨μ, hμ⟩ : ∃ μ : ℝ, M (ix1 r) = (μ : EReal) :=
    ⟨(M (ix1 r)).toReal, (EReal.coe_toReal hmr.2.ne hmr.1.ne').symm⟩
  obtain ⟨lo, hlo, elo⟩ := Words.lower
  obtain ⟨hi, hhi, ehi⟩ := Words.upper
  obtain ⟨q, eq⟩ := Words.fresh
  obtain ⟨w, ew⟩ := Words.kept
  have hp : ∀ j : Fin 1000, Elr.prob (Elr.shifted x M) (ix2 r j) = Row.clipped lo hi μ (fun j => x (ix2 r j)) j := by
    intro j
    rw [Elr.prob_apply]
    simp only [Elr.shifted_apply, hμ, Words.bot, elo, ehi, Row.clipped, max_eq_right bot_le]
  rw [Elr.logs_apply]
  simp only [hp, eq, ew]
  rw [Row.row_eq lo hi q w hlo hhi μ _ (fun j => o (ix2 r j)) htop hbot hz']
  unfold Cert.KernelIdeal.Elr.rowLog
  rw [elo, ehi, eq]

/-- The reference's result: the rows' logarithms added up, times 3 / 4096. -/
theorem value (h : Cert.Pre_fresh_rows.fn (F := Ideal) i x e = fun _ => 1#1) (z : FVec Ideal S_ .f32) (k : S_.Idx) :
    addf (Elr.value i x e) (mulf (constant S_ .f32 0x00000000#32) z) k
      = (∑ r : Fin 4096, Cert.KernelIdeal.Elr.rowLog fun j => x (ix2 r j)) * Ideal.ofBits .f32 0x3A400000#32 := by
  have hr := row i x e h
  unfold Elr.value
  generalize Elr.logs (Cert.Pre_fresh_rows.fn_take e i) (Elr.prob (Elr.shifted x (Elr.rowMax x))) = v at hr ⊢
  have hs : addf (Elr.mean v) (mulf (constant S_ .f32 0x00000000#32) z) k = Elr.mean v ix0 := by
    rw [Subsingleton.elim k ix0]
    generalize Elr.mean v = u
    pointwise
    rw [zero_mul, add_zero]
  rw [hs, Elr.mean_apply, Words.scale, Finset.sum_congr rfl fun r _ => hr r]

end Cert.Agree

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_fresh_rows
public import proofs.«01_k».proof.Proof.Gen.ReferenceIdeal.Run
public import proofs.«01_k».proof.Proof.Agree
public import Idealize.ShloMosaic.Adequacy
public import Idealize.ShloMosaic.Init

@[expose] public section

noncomputable section

namespace Cert.Proof

open Idealize.ShloMosaic Idealize.SL.Sem Cert.Kernel

/-- The reference terminates, leaves its arguments alone, and, having no counter, ends with every counter at zero. -/
theorem reference_frame (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, g⟩ fun r => (∀ c : Dev Cert.ReferenceIdeal.nD,
        r.2.mem (c.tc.loc Cert.ReferenceIdeal.main_arg0) = m (c.tc.loc Cert.ReferenceIdeal.main_arg0)
        ∧ r.2.mem (c.tc.loc Cert.ReferenceIdeal.main_arg1) = m (c.tc.loc Cert.ReferenceIdeal.main_arg1)
        ∧ r.2.mem (c.tc.loc Cert.ReferenceIdeal.main_arg2) = m (c.tc.loc Cert.ReferenceIdeal.main_arg2))
        ∧ r.2.sem = fun _ => 0 :=
  (θ_run _ _ _).mono (fun r h => ⟨fun c => (h c).2, sem_eq_zero_of_no_sems (by decide) r.2⟩)
    (Cert.ReferenceIdeal.Value.run (F := Ideal) m g)

/-- Over the extended reals the kernel and the reference end with the same scalar, from arguments that satisfy the
    precondition. -/
theorem same_result : Cert.algebraic_KernelIdeal_ReferenceIdeal_pre_fresh_rows := by
  intro m g m' g' hpre hagree
  refine ⟨_, Cert.KernelIdeal.Elr.run m g, ?_⟩
  refine (θ_run _ _ _).mono (fun r h c => ⟨(h c).1.trans ?_, (h c).2⟩) (Cert.ReferenceIdeal.Value.run (F := Ideal) m' g')
  obtain ⟨z, hz⟩ := Cert.ReferenceIdeal.Elr.result_eq m' c
  rw [hz, (hagree c).1, (hagree c).2.1, (hagree c).2.2]
  funext k
  exact (Agree.value _ _ _ (hpre c) z k).trans (Cert.KernelIdeal.Elr.result_apply m c k).symm

/-- All the claims. -/
theorem claim : Cert.Claim := ⟨Cert.Kernel.Gen.facts, Cert.KernelIdeal.Gen.facts, Cert.ReferenceIdeal.Gen.facts, Cert.Pre_fresh_rows.Gen.facts,
  fun m g _ => Cert.Kernel.Gen.frame m g, fun m g _ => Cert.KernelIdeal.Gen.frame m g, fun m g _ => Cert.KernelIdeal.Gen.frame m g,
  fun m g _ => reference_frame m g, fun m g _ => reference_frame m g, trivial, same_result⟩

end Cert.Proof

end
